-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x4096x2048 : Shape := ⟨3, ![4, 4096, 2048]⟩
abbrev S8192x2048 : Shape := ⟨2, ![8192, 2048]⟩
abbrev S4096x2048 : Shape := ⟨2, ![4096, 2048]⟩
abbrev S512x2048 : Shape := ⟨2, ![512, 2048]⟩

abbrev nBuf : Space → Nat
  | .hbm => 3
  | .vmem => 4
  | .smem => 0
  | _ => 0

abbrev bufTy : (tb : Table) → Fin (tcTables nBuf tb) → BufTy
  | .hbm, ⟨0, _⟩ => ⟨S4x4096x2048, .f32⟩
  | .hbm, ⟨1, _⟩ => ⟨S8192x2048, .f32⟩
  | .hbm, ⟨2, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4x4096x2048 : Shape := ⟨3, ![4, 4096, 2048]⟩
abbrev S8192x2048 : Shape := ⟨2, ![8192, 2048]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x2048 : Shape := ⟨2, ![4096, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S8192x2048, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x2048, .f32⟩
  | .hbm, ⟨22, _⟩ => ⟨S4096x2048, .i1⟩
  | .hbm, ⟨23, _⟩ => ⟨S_, .f32⟩
  | .hbm, ⟨24, _⟩ => ⟨S4096x2048, .f32⟩
  | .hbm, ⟨25, _⟩ => ⟨S4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Rows.lean ====
/-
  The lookup of the first `n` rows of an `[N, D]` table as jnp prints it, at any extents: the positions 0, 1, …, n − 1
  with the negative ones wrapped by `N`, the test that each lies in the table, the gather of the rows, and the choice
  between the gathered row and a fill value. `lookup_eq_firstRows`: it is the table's first `n` rows, whatever the
  fill value and whatever the type of the entries.
-/
module

public import Idealize.ShloMosaic.Lib.Routing.Ops
public import Idealize.ShloMosaic.Lib.StableHlo.Predicate
public import Idealize.ShloMosaic.Lib.ValueIdxCore

@[expose] public section

noncomputable section

namespace Cert.Rows

open Idealize.ShloMosaic Idealize.ShloMosaic.Routing Idealize.ShloMosaic.ValueIdx
open Idealize.ShloMosaic.StableHlo.Predicate (toInt_ofNat_small slt_ofNat_iff sle_ofNat_iff)

variable {α : Type} {N n D : Nat}

/-- The first `n` rows of an `[N, D]` table. -/
def firstRows (hn : n ≤ N) (table : (shape2 N D).Idx → α) : (shape2 n D).Idx → α :=
  fun i => table (ix2 ⟨(i 0).val, lt_of_lt_of_le (i 0).isLt hn⟩ ⟨(i 1).val, (i 1).isLt⟩)

/-- Where every bit of a mask is set, so is every bit of its conjunction along any axes. -/
theorem reduce_andi_ones {s t u : Shape} {axes : List (Fin s.rank)} (mask : IVec s 1) (hmask : ∀ i, mask i = 1#1)
    (h : s.ReducesTo axes t) (hu : 0 < u.numel) (j : t.Idx) :
    Host.reduce IntOp.andi mask (constantI u 1 1#1) h hu j = 1#1 := by
  classical
  obtain rfl : mask = fun _ => 1#1 := funext hmask
  rw [Host.reduce_eq_fold]
  generalize Finset.univ.filter (fun i => h.drop i = j) = S
  induction S using Finset.cons_induction with
  | empty => rfl
  | cons a S ha ih => rw [Finset.fold_cons, ih]; rfl

/-- A position below 2³¹ is not negative, so the wrap of negative positions leaves it as it is. -/
theorem wrapped_apply {a : Nat} (ha : a < 2 ^ 31) (w : BitVec 32) :
    Scalar.select (IntOp.cmpi .slt (BitVec.ofNat 32 a) 0#32) w (BitVec.ofNat 32 a) = BitVec.ofNat 32 a := by
  have h0 : ¬IntOp.cmpi .slt (BitVec.ofNat 32 a) (BitVec.ofNat 32 0) = 1#1 := fun h =>
    Nat.not_lt_zero _ ((slt_ofNat_iff a 0 ha (by omega)).1 h)
  exact if_neg h0

/-- Position `a` of the table's `N` rows passes both range tests. -/
theorem inRange_apply {a : Nat} (ha : a < N) (hN : N < 2 ^ 31) :
    IntOp.andi (IntOp.cmpi .sge (BitVec.ofNat 32 a) 0#32) (IntOp.cmpi .sle (BitVec.ofNat 32 a) (BitVec.ofNat 32 (N - 1)))
      = 1#1 := by
  have h0 : IntOp.cmpi .sge (BitVec.ofNat 32 a) 0#32 = 1#1 :=
    (sle_ofNat_iff 0 a (by omega) (by omega)).2 (Nat.zero_le _)
  have h1 : IntOp.cmpi .sle (BitVec.ofNat 32 a) (BitVec.ofNat 32 (N - 1)) = 1#1 :=
    (sle_ofNat_iff a (N - 1) (by omega) (by omega)).2 (by omega)
  rw [h0, h1]; rfl

/-- The column of start indices: the positions 0, 1, …, n − 1, the negative ones moved up by the word `wrap`. -/
def starts (b₀ : shape0.BroadcastsInDim (shape1 n) ![]) (b₁ : (shape1 n).BroadcastsInDim (shape2 n 1) ![0])
    (wrap : BitVec 32) : IVec (shape2 n 1) 32 :=
  broadcastInDim (shape2 n 1) ![0] b₁
    (select (cmpi .slt (iotaInDim (shape1 n) 32 0) (broadcastInDim (shape1 n) ![] b₀ (constantI shape0 32 0#32)))
      (addi (iotaInDim (shape1 n) 32 0) (broadcastInDim (shape1 n) ![] b₀ (constantI shape0 32 wrap)))
      (iotaInDim (shape1 n) 32 0))

/-- Row `p` of the column of start indices holds the word of `p`. -/
theorem starts_apply (hn : n < 2 ^ 31) (b₀ : shape0.BroadcastsInDim (shape1 n) ![])
    (b₁ : (shape1 n).BroadcastsInDim (shape2 n 1) ![0]) (wrap : BitVec 32) (p : Fin n) :
    starts b₀ b₁ wrap (ix2 p (0 : Fin 1)) = BitVec.ofNat 32 p.val := by
  have e : (ix2 p (0 : Fin 1) : (shape2 n 1).Idx) = StableHlo.Predicate.ixP p := by
    funext a; match a with | ⟨0, _⟩ => rfl | ⟨1, _⟩ => rfl
  unfold starts
  rw [e, StableHlo.Predicate.bcast_col1 b₁]
  exact wrapped_apply (lt_trans p.isLt hn) _

/-- The printed lookup of the positions 0, 1, …, n − 1 is the first `n` rows of the table. -/
theorem lookup_eq_firstRows (hn : n ≤ N) (hN : N < 2 ^ 31)
    (b₀ : shape0.BroadcastsInDim (shape1 n) ![]) (b₁ : (shape1 n).BroadcastsInDim (shape2 n 1) ![0])
    (b₂ : shape0.BroadcastsInDim (shape2 n 1) ![]) (b₃ : (shape1 1).BroadcastsInDim (shape2 1 1) ![1])
    (b₄ : (shape2 1 1).BroadcastsInDim (shape2 n 1) ![0, 1]) (h : (shape2 n 1).ReducesTo [1] (shape1 n))
    (hu : 0 < shape0.numel) (b₅ : (shape1 n).BroadcastsInDim (shape2 n D) ![0])
    (d : GatherDims (shape2 N D) (shape2 n 1) (shape2 n D)) (hoff : d.offsetDims = [1])
    (hcoll : d.collapsedSliceDims = [0]) (hob : d.operandBatchingDims = []) (hsim : d.startIndexMap = [0])
    (hivd : d.indexVectorDim = 1) (wrap : BitVec 32) (table : (shape2 N D).Idx → α) (fill : (shape2 n D).Idx → α) :
    select (broadcastInDim (shape2 n D) ![0] b₅
        (Host.reduce IntOp.andi
          (andi (cmpi .sge (starts b₀ b₁ wrap) (broadcastInDim (shape2 n 1) ![] b₂ (constantI shape0 32 0#32)))
            (cmpi .sle (starts b₀ b₁ wrap) (broadcastInDim (shape2 n 1) ![0, 1] b₄
              (broadcastInDim (shape2 1 1) ![1] b₃ (constantI (shape1 1) 32 (BitVec.ofNat 32 (N - 1)))))))
          (constantI shape0 1 1#1) h hu))
      (Host.gather d table (starts b₀ b₁ wrap)) fill
      = firstRows hn table := by
  have hcol (p : Fin n) := starts_apply (lt_of_le_of_lt hn hN) b₀ b₁ wrap p
  -- every position lies in the table, so the mask of the rows is set throughout
  have hmask : ∀ i : (shape2 n 1).Idx,
      andi (cmpi .sge (starts b₀ b₁ wrap) (broadcastInDim (shape2 n 1) ![] b₂ (constantI shape0 32 0#32)))
        (cmpi .sle (starts b₀ b₁ wrap) (broadcastInDim (shape2 n 1) ![0, 1] b₄
          (broadcastInDim (shape2 1 1) ![1] b₃ (constantI (shape1 1) 32 (BitVec.ofNat 32 (N - 1)))))) i = 1#1 := by
    intro i
    have hi : i = ix2 (⟨(i 0).val, (i 0).isLt⟩ : Fin n) (0 : Fin 1) := by
      funext a
      match a with
      | ⟨0, _⟩ => rfl
      | ⟨1, _⟩ => exact Subsingleton.elim (α := Fin 1) _ _
    show IntOp.andi (IntOp.cmpi .sge (starts b₀ b₁ wrap i) 0#32)
      (IntOp.cmpi .sle (starts b₀ b₁ wrap i) (BitVec.ofNat 32 (N - 1))) = 1#1
    rw [hi, hcol]
    exact inRange_apply (lt_of_lt_of_le (i 0).isLt hn) hN
  funext i
  obtain ⟨p, y, rfl⟩ : ∃ (p : Fin n) (y : Fin D), i = ix2 p y :=
    ⟨⟨(i 0).val, (i 0).isLt⟩, ⟨(i 1).val, (i 1).isLt⟩, by funext a; match a with | ⟨0, _⟩ => rfl | ⟨1, _⟩ => rfl⟩
  refine (if_pos (reduce_andi_ones _ hmask h hu _)).trans ?_
  exact gather_row d hoff hcoll hob hsim hivd table _ p y ⟨p.val, lt_of_lt_of_le p.isLt hn⟩ (hcol p) hN

end Cert.Rows

end
-- ==== Proof.Blocks.lean ====
/-
  What the kernel's result array holds after the run: the first 4096 rows of the table. The body stores the block
  that it loads; block `t` of the result and block `t` of the table start at the same row, 512 · t, so what point `t`
  writes back is block `t` of the table's first 4096 rows; the eight blocks cover the result.
-/
module

public import proofs.«01_k».proof.Defs
public import proofs.«01_k».proof.Proof.Gen.Kernel.Value
public import proofs.«01_k».proof.Proof.Gen.KernelIdeal.Value
public import proofs.«01_k».proof.Proof.Rows

@[expose] public section

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ) (ρ : Dev nD → PrngReg)

/-- The first 4096 rows of device `c`'s table. -/
abbrev rows (c : Dev nD) : Buf (Elt F) ((c : Thread nD τ).loc main_v0) :=
  Cert.Rows.firstRows (N := 8192) (n := 4096) (D := 2048) (by omega) (m ((c : Thread nD τ).loc main_arg1))

theorem zeros2 : (![0, 0] : Fin 2 → Nat) = fun _ => 0 := by decide

/-- What point `t` writes back is block `t` of the first rows. -/
theorem flushed_eq (c : Dev nD) (t : Fin cfg0.N) :
    (dats m 0 c).flushed 1 t = (win0_1.blk t).view.read (Elt F) (rows m c) := by
  rw [Value.flushed1]
  unfold out0_1
  rw [View.canon_unit_zero zeros2, View.ld_unit_zero zeros2]
  funext y
  refine congrArg (m ((c : Thread nD τ).loc main_arg1)) (funext fun a => Fin.ext ?_)
  match a with
  | ⟨0, _⟩ => rfl
  | ⟨1, _⟩ => rfl

/-- Where point `t`'s block of the result starts and how far it reaches, axis by axis: 512 rows from row `512 · t`, and
    all 2048 columns. -/
theorem box (t : Fin cfg0.N) (a : Fin 2) :
    win0_1.index t a * win0_1.size a = (![t.val * 512, 0] : Fin 2 → Nat) a
      ∧ win0_1.xsize (grid0.coords t) a = (![512, 2048] : Fin 2 → Nat) a := by
  revert a t; decide +kernel

/-- An index of the result whose row is one of the 512 from `512 · t` is in point `t`'s block. -/
theorem mem_blk (t : Fin cfg0.N) (i : S4096x2048.Idx) (lo : t.val * 512 ≤ (i 0 : Nat))
    (hi : (i 0 : Nat) < t.val * 512 + 512) : i ∈ ((cfg0.win 1).blk t).view.set := by
  have inside : ∀ a : Fin 2, win0_1.index t a * win0_1.size a ≤ (i a : Nat)
      ∧ (i a : Nat) < win0_1.index t a * win0_1.size a + win0_1.xsize (grid0.coords t) a := fun a => by
    rw [(box t a).1, (box t a).2]
    match a with
    | ⟨0, _⟩ => exact ⟨lo, hi⟩
    | ⟨1, _⟩ => exact ⟨Nat.zero_le _, (Nat.zero_add 2048).symm ▸ (i 1).isLt⟩
  show i ∈ ((View.whole main_v0).slice (win0_1.rect t)).set
  rw [View.set_slice_whole, Rect.mem_set_unit]
  exact inside

/-- The blocks written back cover the result: row `r` is in the block of point `r / 512`. -/
theorem cover (i : S4096x2048.Idx) :
    ∃ t : Fin cfg0.N, (cfg0.win 1).flush t = true ∧ i ∈ ((cfg0.win 1).blk t).view.set := by
  have h0 : (i 0 : Nat) < 4096 := (i 0).isLt
  have hN : cfg0.N = 8 := by decide
  refine ⟨⟨(i 0 : Nat) / 512, by omega⟩, flush0_1 _, mem_blk _ i ?_ ?_⟩ <;> dsimp only <;> omega

/-- The result array ends holding the first 4096 rows of the table, -/
theorem final (c : Dev nD) : (dats m 0 c).arrAt 1 cfg0.N = rows m c :=
  (dats m 0 c).arrAt_eq_of_cover 1 (rows m c) (fun t _ => flushed_eq m c t) cover

/-- and the run, read: the result at those rows, the arguments unchanged. -/
theorem run : θ_run defs (onTc (τ := τ) (main (F := F))) ⟨m, fun _ => 0, ρ⟩ fun r => ∀ c : Dev nD,
      r.2.mem ((c : Thread nD τ).loc main_v0) = rows m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Blocks

namespace Cert.Kernel.Blocks

open Cert.Kernel Cert.Kernel.Gen

variable {F : FTy → Type} [FloatOps F]
variable (m : (ℓ : Loc nD τ sig) → Buf (Elt F) ℓ) (ρ : Dev nD → PrngReg)

/-- The printed kernel and its idealization have the same windows and the same body, so the result array of the one
    is the result array of the other: the first 4096 rows of the table. -/
theorem final (c : Dev nD) : (dats m 0 c).arrAt 1 cfg0.N = Cert.KernelIdeal.Blocks.rows m c :=
  Cert.KernelIdeal.Blocks.final m c

/-- The run of the printed kernel, read: the result at those rows, the arguments unchanged. -/
theorem run : θ_run defs (onTc (τ := τ) (main (F := F))) ⟨m, fun _ => 0, ρ⟩ fun r => ∀ c : Dev nD,
      r.2.mem ((c : Thread nD τ).loc main_v0) = Cert.KernelIdeal.Blocks.rows m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel.Blocks

end
-- ==== Proof.Lookup.lean ====
/-
  What the reference computes: its run ends with the first 4096 rows of the table in its result, at any float values.
  The same for the reference read over the extended reals.
-/
module

public import proofs.«01_k».proof.Proof.Gen.Reference.Run
public import proofs.«01_k».proof.Proof.Gen.ReferenceIdeal.Run
public import proofs.«01_k».proof.Proof.Rows

@[expose] public section

noncomputable section

open Idealize.ShloMosaic Idealize.ShloMosaic.TcCoe Idealize.SL.Sem

namespace Cert.Reference.Lookup

open Cert.Reference Cert.Reference.Gen

variable {F : FTy → Type} [FloatOps F]
variable (m : (ℓ : Loc nD τ sig) → Buf (Elt F) ℓ) (ρ : Dev nD → PrngReg)

/-- The reference's run, read: the result at the table's first 4096 rows, the arguments unchanged. -/
theorem run : θ_run defs (onTc (τ := τ) (main (F := F))) ⟨m, fun _ => 0, ρ⟩ fun r => ∀ c : Dev nD,
      r.2.mem ((c : Thread nD τ).loc main_v1)
        = Cert.Rows.firstRows (N := 8192) (n := 4096) (D := 2048) (by omega) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
      (Cert.Rows.lookup_eq_firstRows (N := 8192) (n := 4096) (D := 2048) (by omega) (by omega)
        bcast_S_S4096 bcast_S4096_S4096x1_0 bcast_S_S4096x1 bcast_S1_S1x1_1 bcast_S1x1_S4096x1_0_1
        reducesTo_S4096x1_S4096_d1 h_S_ bcast_S4096_S4096x2048_0
        gather_S8192x2048_S4096x1_S4096x2048_1_0_n_n_0_1_12048 rfl rfl rfl rfl rfl 8192#32 _ _), (h c).2⟩)
    (Value.run m ρ)

end Cert.Reference.Lookup

namespace Cert.ReferenceIdeal.Lookup

open Cert.ReferenceIdeal Cert.ReferenceIdeal.Gen

variable {F : FTy → Type} [FloatOps F]
variable (m : (ℓ : Loc nD τ sig) → Buf (Elt F) ℓ) (ρ : Dev nD → PrngReg)

/-- The idealized reference's run, read: the two references are the same program. -/
theorem run : θ_run defs (onTc (τ := τ) (main (F := F))) ⟨m, fun _ => 0, ρ⟩ fun r => ∀ c : Dev nD,
      r.2.mem ((c : Thread nD τ).loc main_v1)
        = Cert.Rows.firstRows (N := 8192) (n := 4096) (D := 2048) (by omega) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  Cert.Reference.Lookup.run m ρ

end Cert.ReferenceIdeal.Lookup

end
-- ==== Proof.lean ====
/-
  The certificate's proof: the frames, and that the kernel and the lookup compute the same rows of the table, over the
  extended reals and in float words. Both runs end with the table's first 4096 rows (Proof/Blocks.lean for the kernel,
  Proof/Lookup.lean for the reference), so nothing is asked of the arguments.
-/
module

public import proofs.«01_k».proof.Defs
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.Blocks
public import proofs.«01_k».proof.Proof.Lookup
public import Idealize.ShloMosaic.Lib.Quiescent

@[expose] public section

noncomputable section

namespace Cert.Proof

open Idealize.ShloMosaic Idealize.SL.Sem

/-- The reference runs, leaves its arguments as they were, and has no semaphore. -/
theorem frame_Reference : Cert.quiescent_Reference := fun m ρ _ =>
  (θ_run Cert.Reference.defs _ _).mono (fun r h => ⟨fun c => (h c).2, sem_eq_zero_of_no_sems (by decide) r.2⟩)
    (Cert.Reference.Lookup.run (F := Bits) m ρ)

/-- So does the idealized reference. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Lookup.run (F := Ideal) m ρ)

/-- Over the extended reals the kernel and the lookup end with the same result, the table's first 4096 rows. -/
theorem algebraic : Cert.algebraic_KernelIdeal_ReferenceIdeal := fun m ρ m' ρ' _ hagree =>
  ⟨fun c => Cert.KernelIdeal.Blocks.rows m c, Cert.KernelIdeal.Blocks.run (F := Ideal) m ρ,
    (θ_run Cert.ReferenceIdeal.defs _ _).mono
      (fun _ h c => ⟨(h c).1.trans (congrArg (Cert.Rows.firstRows _) (hagree c).2), (h c).2⟩)
      (Cert.ReferenceIdeal.Lookup.run (F := Ideal) m' ρ')⟩

/-- In float words too: the kernel moves the words of the table and changes none. -/
theorem bitexact : Cert.bitexact_Kernel_Reference := fun m ρ m' ρ' _ hagree =>
  ⟨fun c => Cert.KernelIdeal.Blocks.rows (F := Bits) m c, Cert.Kernel.Blocks.run (F := Bits) m ρ,
    (θ_run Cert.Reference.defs _ _).mono
      (fun _ h c => ⟨(h c).1.trans (congrArg (Cert.Rows.firstRows _) (hagree c).2), (h c).2⟩)
      (Cert.Reference.Lookup.run (F := Bits) m' ρ')⟩

theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ,
    frame_Reference, frame_ReferenceIdeal, trivial, algebraic, bitexact⟩

end Cert.Proof

end
